-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024 : Shape := ⟨2, ![128, 1024]⟩
abbrev S100000x128 : Shape := ⟨2, ![100000, 128]⟩
abbrev S100000x1024 : Shape := ⟨2, ![100000, 1024]⟩
abbrev S5000x128 : Shape := ⟨2, ![5000, 128]⟩
abbrev S5000x1024 : Shape := ⟨2, ![5000, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S100000x128, .f32⟩
  | .hbm, ⟨2, _⟩ => ⟨S100000x1024, .f32⟩
  | .local _ .vmem, ⟨0, _⟩ => ⟨S128x1024, .f32⟩
  | .local _ .vmem, ⟨1, _⟩ => ⟨S5000x128, .f32⟩
  | .local _ .vmem, ⟨2, _⟩ => ⟨S5000x128, .f32⟩
  | .local _ .vmem, ⟨3, _⟩ => ⟨S5000x1024, .f32⟩
  | .local _ .vmem, ⟨4, _⟩ => ⟨S5000x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x1024 : Shape := ⟨2, ![128, 1024]⟩
abbrev S100000x128 : Shape := ⟨2, ![100000, 128]⟩
abbrev S100000x1024 : Shape := ⟨2, ![100000, 1024]⟩

abbrev nBuf : Space → Nat
  | .hbm => 3
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S100000x128, .f32⟩
  | .hbm, ⟨2, _⟩ => ⟨S100000x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Product.lean ====
/-
  The mathematics of the memory query: the product of an `M × 128` matrix of memory keys and a `128 × 1024` matrix of
  queries, entry by entry, and the two operations of the programs that are this product over the extended reals.
-/
module

public import Idealize.ShloMosaic.Lib.MatmulPlain
public import Idealize.ShloMosaic.Lib.StackMember

@[expose] public section

noncomputable section

namespace Cert.Query

open Idealize.ShloMosaic Idealize.ShloMosaic.ValueIdx
open scoped BigOperators

/-- The product `keys · q` of `M` memory keys and 1024 queries, all of length 128: entry `(r, c)` is
    `∑ k, keys[r, k] · q[k, c]`, over the extended reals. -/
def product {M : ℕ} (keys : FVec Ideal ⟨2, ![M, 128]⟩ .f32) (q : FVec Ideal ⟨2, ![128, 1024]⟩ .f32) :
    FVec Ideal ⟨2, ![M, 1024]⟩ .f32 :=
  fun i => ∑ k : Fin 128, keys (ix2 (n0 := M) (i 0) k) * q (ix2 (n1 := 1024) k (i 1))

/-- The host's `dot_general` of the keys' columns with the queries' rows is the product. -/
theorem hostDot_eq {M : ℕ} (keys : FVec Ideal ⟨2, ![M, 128]⟩ .f32) (q : FVec Ideal ⟨2, ![128, 1024]⟩ .f32) :
    Host.dotGeneral (DotDims.plain M 128 1024) none keys q = product keys q := by
  funext i
  rw [eq_ix2 i]
  exact StackMember.dotGeneral_plain_apply none keys q (i 0) (i 1)

/-- The matrix unit's product of the keys and the queries, both narrowed to bf16, into a zero accumulator is the
    product: over the extended reals the narrowing is the identity. -/
theorem unitDot_eq {M : ℕ} (keys : FVec Ideal ⟨2, ![M, 128]⟩ .f32) (q : FVec Ideal ⟨2, ![128, 1024]⟩ .f32)
    (h : FTy.bf16.bits < FTy.f32.bits) :
    matmul (DotDims.plain M 128 1024) none (truncf .bf16 keys h) (truncf .bf16 q h)
      (constant ⟨2, ![M, 1024]⟩ .f32 0x00000000#32) = product keys q := by
  funext i
  rw [eq_ix2 i]
  refine (Ideal.matmul_plain_apply none _ _ _ (i 0) (i 1)).trans ?_
  show Ideal.ofBits .f32 0x00000000#32 + _ = _
  rw [Ideal.ofBits_zero_f32, zero_add]
  rfl

/-- An entry of the product reads one row of the keys and one column of the queries: two products agree at two entries
    whose key rows and query columns agree. -/
theorem product_congr {M N : ℕ} {keys : FVec Ideal ⟨2, ![M, 128]⟩ .f32} {keys' : FVec Ideal ⟨2, ![N, 128]⟩ .f32}
    {q q' : FVec Ideal ⟨2, ![128, 1024]⟩ .f32} {i : Shape.Idx ⟨2, ![M, 1024]⟩} {j : Shape.Idx ⟨2, ![N, 1024]⟩}
    (hk : ∀ k : Fin 128, keys (ix2 (n0 := M) (i 0) k) = keys' (ix2 (n0 := N) (j 0) k))
    (hq : ∀ k : Fin 128, q (ix2 (n1 := 1024) k (i 1)) = q' (ix2 (n1 := 1024) k (j 1))) :
    product keys q i = product keys' q' j :=
  Finset.sum_congr rfl fun k _ => by rw [hk k, hq k]

end Cert.Query

end
-- ==== Proof.KernelValue.lean ====
/-
  What the kernel leaves in its result: the grid has 20 points, point `t` multiplies keys `5000 t … 5000 t + 4999` by all
  the queries and writes rows `5000 t … 5000 t + 4999` of the result, so the result is the whole product.
-/
module

public import proofs.«01_k».proof.Proof.Gen.KernelIdeal.Value
public import proofs.«01_k».proof.Proof.Product

@[expose] public section

noncomputable section

namespace Cert.KernelIdeal.Query

open Cert.KernelIdeal Cert.KernelIdeal.Gen Cert.Query
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The product of device `c`'s memory keys (the second argument) and queries (the first). -/
abbrev whole (c : Dev nD) : Buf (Elt Ideal) ((c : Thread nD τ).loc main_v0) :=
  product (M := 100000) (m ((c : Thread nD τ).loc main_arg1)) (m ((c : Thread nD τ).loc main_arg0))

/-- The one value that the body stores is the product of its block of keys and the queries. -/
theorem payload_eq (keys : Vec Ideal S5000x128 .f32) (q : Vec Ideal S128x1024 .f32) :
    k0_pay1 (F := Ideal) keys q = product (M := 5000) keys q :=
  unitDot_eq keys q bitsLt_bf16_f32

theorem origin : (![0, 0] : Fin 2 → Nat) = fun _ => 0 := funext fun a => by fin_cases a <;> rfl

/-- After the body the result's staging buffer holds the product of the two staged blocks. -/
theorem out_eq (q : Vec Ideal S128x1024 .f32) (keys : Vec Ideal S5000x128 .f32) :
    out0_2 (F := Ideal) q keys = product (M := 5000) keys q := by
  unfold out0_2
  rw [View.canon_unit_zero origin, View.ld_unit_zero origin, View.ld_unit_zero origin]
  exact payload_eq keys q

/-- Where the blocks of point `t` lie: the queries whole, the keys and the result from row `5000 t`. -/
theorem corners : ∀ t : Fin cfg0.N,
    (win0_0.index t 0 = 0 ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = 0 ∧ win0_0.index t 1 = 0) ∧ (win0_1.index t 0 = t.val ∧ win0_1.index t 1 = 0)
      ∧ (win0_2.index t 0 = t.val ∧ win0_2.index t 1 = 0))

/-- The staged queries are the queries. -/
theorem queries_apply (c : Dev nD) (t : Fin cfg0.N) (k : Fin 128) (b b' : Fin 1024) (hb : b.val = b'.val) :
    iblk m c 0 t (ix2 k b) = m ((c : Thread nD τ).loc main_arg0) (ix2 k b') := by
  obtain ⟨⟨e0, e1⟩, -, -⟩ := corners t
  refine congrArg (m ((c : Thread nD τ).loc main_arg0)) (funext fun a => Fin.ext ?_)
  match a with
  | ⟨0, _⟩ =>
    show win0_0.index t 0 * 128 + 1 * k.val = k.val
    omega
  | ⟨1, _⟩ =>
    show win0_0.index t 1 * 1024 + 1 * b.val = b'.val
    omega

/-- Row `r` of the keys staged at point `t` is row `5000 t + r` of the keys. -/
theorem keys_apply (c : Dev nD) (t : Fin cfg0.N) (r : Fin 5000) (r' : Fin 100000) (hr : r'.val = t.val * 5000 + r.val)
    (k : Fin 128) : iblk m c 1 t (ix2 r k) = m ((c : Thread nD τ).loc main_arg1) (ix2 r' k) := by
  obtain ⟨-, ⟨e0, e1⟩, -⟩ := corners t
  refine congrArg (m ((c : Thread nD τ).loc main_arg1)) (funext fun a => Fin.ext ?_)
  match a with
  | ⟨0, _⟩ =>
    show win0_1.index t 0 * 5000 + 1 * r.val = r'.val
    rw [e0]; omega
  | ⟨1, _⟩ =>
    show win0_1.index t 1 * 128 + 1 * k.val = k.val
    omega

/-- What point `t` writes back is its block of the whole product. -/
theorem flushed_eq (c : Dev nD) (t : Fin cfg0.N) :
    (dats m 0 c).flushed 2 t = ((cfg0.win 2).blk t).view.read (Elt Ideal) (whole m c) := by
  obtain ⟨-, -, e0, e1⟩ := corners t
  rw [Value.flushed2, out_eq]
  funext y
  refine product_congr (fun k => keys_apply m c t _ _ ?_ k) (fun k => queries_apply m c t k _ _ ?_)
  · show win0_2.index t 0 * 5000 + 1 * (y 0).val = t.val * 5000 + (y 0).val
    rw [e0]; omega
  · show (y 1).val = win0_2.index t 1 * 1024 + 1 * (y 1).val
    rw [e1]; omega

/-- Every entry of the result is in some point's block: row `r` is point `r / 5000`'s. -/
theorem covered (i : S100000x1024.Idx) :
    ∃ t : Fin cfg0.N, (cfg0.win 2).flush t = true ∧ i ∈ ((cfg0.win 2).blk t).view.set := by
  have h0 : (i 0 : Nat) < 100000 := (i 0).isLt
  have h1 : (i 1 : Nat) < 1024 := (i 1).isLt
  have hN : cfg0.N = 20 := N_0
  obtain ⟨t, ht⟩ : ∃ t : Fin cfg0.N, t.val = (i 0 : Nat) / 5000 := ⟨⟨(i 0 : Nat) / 5000, by omega⟩, rfl⟩
  obtain ⟨-, -, e0, e1⟩ := corners t
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 5000 ≤ (i 0 : Nat) ∧ (i 0 : Nat) < win0_2.index t 0 * 5000 + 5000
    rw [e0, ht]; omega
  | ⟨1, _⟩ =>
    show win0_2.index t 1 * 1024 ≤ (i 1 : Nat) ∧ (i 1 : Nat) < win0_2.index t 1 * 1024 + 1024
    rw [e1]; omega

/-- So the result array ends at the whole product. -/
theorem final_eq (c : Dev nD) : (dats m 0 c).arrAt 2 cfg0.N = whole m c :=
  (dats m 0 c).arrAt_eq_of_cover 2 (whole m c) (fun t _ => flushed_eq m c t) covered

/-- The kernel's run: the result ends at the product of the memory keys and the queries, the arguments as they were. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.KernelIdeal.Query

end
-- ==== Proof.ReferenceValue.lean ====
/-
  What the reference leaves in its result: its one `dot_general` is the whole product.
-/
module

public import proofs.«01_k».proof.Proof.Gen.ReferenceIdeal.Run
public import proofs.«01_k».proof.Proof.Product

@[expose] public section

noncomputable section

namespace Cert.ReferenceIdeal.Query

open Cert.ReferenceIdeal Cert.ReferenceIdeal.Gen Cert.Query
open Idealize.ShloMosaic Idealize.ShloMosaic.TcCoe Idealize.SL.Sem

variable (m : (ℓ : Loc nD τ sig) → Buf (Elt Ideal) ℓ) (ρ : Dev nD → PrngReg)

/-- The reference's run: the result ends at the product of the memory keys (the second argument) and the queries (the
    first), the arguments as they were. -/
theorem run : θ_run defs (onTc (τ := τ) (main (F := Ideal))) ⟨m, fun _ => 0, ρ⟩ fun r => ∀ c : Dev nD,
      r.2.mem ((c : Thread nD τ).loc main_v0)
        = product (M := 100000) (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (hostDot_eq _ _), (h c).2⟩) (Value.run m ρ)

/-- The reference's frame: it runs, keeps its arguments, and has no semaphore whose counter could end above zero. -/
theorem quiet : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩) (run m ρ)

end Cert.ReferenceIdeal.Query

end
-- ==== Proof.lean ====
/-
  The proof of `Cert.Claim`: the blocked kernel and the plain product compute `keys · q` over the extended reals, and each
  program runs to its end with its arguments unchanged and its semaphore counters at zero.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.KernelValue
public import proofs.«01_k».proof.Proof.ReferenceValue

@[expose] public section

noncomputable section

namespace Cert.Proof

open Idealize.ShloMosaic Idealize.SL.Sem

/-- From equal arguments the kernel's result and the reference's are one array: the product of the keys and the queries. -/
theorem algebraic : Cert.algebraic_KernelIdeal_ReferenceIdeal (hKernelIdeal := Cert.KernelIdeal.Gen.facts)
    (hReferenceIdeal := Cert.ReferenceIdeal.Gen.facts) := by
  intro m ρ m' ρ' _ hargs
  refine ⟨fun c => Cert.KernelIdeal.Query.whole m c, Cert.KernelIdeal.Query.run m ρ, ?_⟩
  refine (θ_run Cert.ReferenceIdeal.defs _ _).mono (fun _ h c => ⟨(h c).1.trans ?_, (h c).2⟩)
    (Cert.ReferenceIdeal.Query.run m' ρ')
  rw [(hargs c).1, (hargs c).2]

/-- The certificate's claims: three frames, the kernel's idealization, and the equation of the two results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Query.quiet m ρ, trivial, algebraic⟩

end Cert.Proof

end
